-- ==== Defs.lean ====
def Pre_Kernel [hPre_word_in_table : Cert.Pre_word_in_table.Facts] (m : (ℓ : Loc Cert.Kernel.nD Cert.Kernel.τ Cert.Kernel.sig) → Buf (Elt Bits) ℓ) : Prop :=
  ∀ c : Dev Cert.Kernel.nD,
    (Cert.Pre_word_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_word_in_table : Cert.Pre_word_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_word_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_word_in_table [hPre_word_in_table : Cert.Pre_word_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_word_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_word_in_table : Cert.Pre_word_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_word_in_table : Cert.Pre_word_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_word_in_table [hReferenceIdeal : Cert.ReferenceIdeal.Facts] [hPre_word_in_table : Cert.Pre_word_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_word_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_word_in_table : Cert.Pre_word_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_word_in_table : Cert.Pre_word_in_table.Facts),
    quiescent_Kernel (hKernel := hKernel) (hPre_word_in_table := hPre_word_in_table)
    ∧ quiescent_KernelIdeal (hKernelIdeal := hKernelIdeal) (hPre_word_in_table := hPre_word_in_table)
    ∧ quiescent_ReferenceIdeal (hReferenceIdeal := hReferenceIdeal)
    ∧ quiescent_ReferenceIdeal_pre_word_in_table (hReferenceIdeal := hReferenceIdeal) (hPre_word_in_table := hPre_word_in_table)
    ∧ preserves_Kernel_KernelIdeal
    ∧ algebraic_KernelIdeal_ReferenceIdeal (hKernelIdeal := hKernelIdeal) (hReferenceIdeal := hReferenceIdeal) (hPre_word_in_table := hPre_word_in_table)
-- ==== Pre_word_in_table.lean ====
abbrev S_ : Shape := ⟨0, ![]⟩
abbrev S1x1x128 : Shape := ⟨3, ![1, 1, 128]⟩
abbrev S1000000x128 : Shape := ⟨2, ![1000000, 128]⟩
abbrev S512x128 : Shape := ⟨2, ![512, 128]⟩
abbrev S512 : Shape := ⟨1, ![512]⟩

class Facts : Prop where

variable [Facts]

def fn {F : FTy → Type} [FloatOps F] (main_arg0 : IVec S_ 32) (main_arg1 : FVec F S1x1x128 .f32) (main_arg2 : FVec F S1x1x128 .f32) (main_arg3 : FVec F S1000000x128 .f32) (main_arg4 : FVec F S512x128 .f32) (main_arg5 : FVec F S512x128 .f32) (main_arg6 : FVec F S512 .f32) (main_arg7 : FVec F S512 .f32) : IVec S_ 1 :=
  let main_c : IVec S_ 32 := constantI S_ 32 0#32
  let main_v0 : IVec S_ 1 := cmpi .sge main_arg0 main_c
  let main_c_0 : IVec S_ 32 := constantI S_ 32 1000000#32
  let main_v1 : IVec S_ 1 := cmpi .slt main_arg0 main_c_0
  let main_v2 : IVec S_ 1 := andi main_v0 main_v1
  main_v2
-- ==== Kernel.lean ====
abbrev S_ : Shape := ⟨0, ![]⟩
abbrev S1x1x128 : Shape := ⟨3, ![1, 1, 128]⟩
abbrev S1000000x128 : Shape := ⟨2, ![1000000, 128]⟩
abbrev S512x128 : Shape := ⟨2, ![512, 128]⟩
abbrev S512 : Shape := ⟨1, ![512]⟩
abbrev S1 : Shape := ⟨1, ![1]⟩
abbrev S1x128 : Shape := ⟨2, ![1, 128]⟩
abbrev S1x512 : Shape := ⟨2, ![1, 512]⟩

abbrev nBuf : Space → Nat
  | .hbm => 11
  | .vmem => 9
  | .smem => 1
  | _ => 0

abbrev bufTy : (tb : Table) → Fin (tcTables nBuf tb) → BufTy
  | .hbm, ⟨0, _⟩ => ⟨S_, .i32⟩
  | .hbm, ⟨1, _⟩ => ⟨S1x1x128, .f32⟩
  | .hbm, ⟨2, _⟩ => ⟨S1x1x128, .f32⟩
  | .hbm, ⟨3, _⟩ => ⟨S1000000x128, .f32⟩
  | .hbm, ⟨4, _⟩ => ⟨S512x128, .f32⟩
  | .hbm, ⟨5, _⟩ => ⟨S512x128, .f32⟩
  | .hbm, ⟨6, _⟩ => ⟨S512, .f32⟩
  | .hbm, ⟨7, _⟩ => ⟨S512, .f32⟩
  | .hbm, ⟨8, _⟩ => ⟨S1, .i32⟩
  | .hbm, ⟨9, _⟩ => ⟨S1x1x128, .f32⟩
  | .hbm, ⟨10, _⟩ => ⟨S1x1x128, .f32⟩
  | .local _ .vmem, ⟨0, _⟩ => ⟨S1x1x128, .f32⟩
  | .local _ .vmem, ⟨1, _⟩ => ⟨S1x1x128, .f32⟩
  | .local _ .vmem, ⟨2, _⟩ => ⟨S512x128, .f32⟩
  | .local _ .vmem, ⟨3, _⟩ => ⟨S512x128, .f32⟩
  | .local _ .vmem, ⟨4, _⟩ => ⟨S512, .f32⟩
  | .local _ .vmem, ⟨5, _⟩ => ⟨S512, .f32⟩
  | .local _ .vmem, ⟨6, _⟩ => ⟨S1x1x128, .f32⟩
  | .local _ .vmem, ⟨7, _⟩ => ⟨S1x1x128, .f32⟩
  | .local _ .vmem, ⟨8, _⟩ => ⟨S1x128, .f32⟩
  | .local _ .smem, ⟨0, _⟩ => ⟨S1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch1 : Ref sig .tc := ⟨.vmem, 8, rfl⟩
abbrev cc0_scratch0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

def k0_off1 (v0 : BitVec 32) : Fin 2 → Nat :=
  let c0_i32 : BitVec 32 := 0#32
  ![v0.toNat, 0]

def k0_chk1 (v0 : BitVec 32) : Prop :=
  (∀ a, (k0_off1 v0) a + S1x128.size a ≤ S1000000x128.size a)
theorem k0_off1_inb : ∀ (v0 : BitVec 32) (k0_hw1 : k0_chk1 v0), ∀ a, (k0_off1 v0) a + S1x128.size a ≤ S1000000x128.size a := fun v0 k0_hw1 => k0_hw1

abbrev stage0_0 : Fin 1 → Memref sig .tc .vmem S1x1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S_ : Shape := ⟨0, ![]⟩
abbrev S1x1x128 : Shape := ⟨3, ![1, 1, 128]⟩
abbrev S1000000x128 : Shape := ⟨2, ![1000000, 128]⟩
abbrev S512x128 : Shape := ⟨2, ![512, 128]⟩
abbrev S512 : Shape := ⟨1, ![512]⟩
abbrev S1 : Shape := ⟨1, ![1]⟩
abbrev S128 : Shape := ⟨1, ![128]⟩
abbrev S1x128 : Shape := ⟨2, ![1, 128]⟩
abbrev S128x512 : Shape := ⟨2, ![128, 512]⟩
abbrev S1x512 : Shape := ⟨2, ![1, 512]⟩

abbrev nBuf : Space → Nat
  | .hbm => 77
  | .vmem => 0
  | .smem => 0
  | _ => 0

abbrev bufTy : (tb : Table) → Fin (tcTables nBuf tb) → BufTy
  | .hbm, ⟨0, _⟩ => ⟨S_, .i32⟩
  | .hbm, ⟨1, _⟩ => ⟨S1x1x128, .f32⟩
  | .hbm, ⟨2, _⟩ => ⟨S1x1x128, .f32⟩
  | .hbm, ⟨3, _⟩ => ⟨S1000000x128, .f32⟩
  | .hbm, ⟨4, _⟩ => ⟨S512x128, .f32⟩
  | .hbm, ⟨5, _⟩ => ⟨S512x128, .f32⟩
  | .hbm, ⟨6, _⟩ => ⟨S512, .f32⟩
  | .hbm, ⟨7, _⟩ => ⟨S512, .f32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S1, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S1, .i1⟩
  | .hbm, ⟨18, _⟩ => ⟨S1, .i1⟩
  | .hbm, ⟨19, _⟩ => ⟨S1, .i1⟩
  | .hbm, ⟨20, _⟩ => ⟨S_, .i1⟩
  | .hbm, ⟨21, _⟩ => ⟨S_, .i1⟩
  | .hbm, ⟨22, _⟩ => ⟨S128, .f32⟩
  | .hbm, ⟨23, _⟩ => ⟨S128, .i1⟩
  | .hbm, ⟨24, _⟩ => ⟨S_, .f32⟩
  | .hbm, ⟨25, _⟩ => ⟨S128, .f32⟩
  | .hbm, ⟨26, _⟩ => ⟨S128, .f32⟩
  | .hbm, ⟨27, _⟩ => ⟨S1x1x128, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S128x512, .f32⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S128x512, .f32⟩
  | .hbm, ⟨36, _⟩ => ⟨S1x512, .f32⟩
  | .hbm, ⟨37, _⟩ => ⟨S1x512, .f32⟩
  | .hbm, ⟨38, _⟩ => ⟨S1x512, .f32⟩
  | .hbm, ⟨39, _⟩ => ⟨S1x512, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S_, .f32⟩
  | .hbm, ⟨44, _⟩ => ⟨S1x128, .f32⟩
  | .hbm, ⟨45, _⟩ => ⟨S1x128, .f32⟩
  | .hbm, ⟨46, _⟩ => ⟨S_, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S_, .f32⟩
  | .hbm, ⟨53, _⟩ => ⟨S1x128, .f32⟩
  | .hbm, ⟨54, _⟩ => ⟨S1x128, .f32⟩
  | .hbm, ⟨55, _⟩ => ⟨S_, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S_, .f32⟩
  | .hbm, ⟨64, _⟩ => ⟨S1x128, .f32⟩
  | .hbm, ⟨65, _⟩ => ⟨S1x128, .f32⟩
  | .hbm, ⟨66, _⟩ => ⟨S_, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S1x1x128, .f32⟩
  | .hbm, ⟨75, _⟩ => ⟨S1x1x128, .f32⟩
  | .hbm, ⟨76, _⟩ => ⟨S1x1x128, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_c_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_c_1 : Ref sig .tc := ⟨.hbm, 14, rfl⟩
abbrev main_call0_c_2 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_c_3 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_cst : Ref sig .tc := ⟨.hbm, 24, rfl⟩
abbrev main_call0_v11 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst : Ref sig .tc := ⟨.hbm, 43, rfl⟩
abbrev main_v17 : Ref sig .tc := ⟨.hbm, 44, rfl⟩
abbrev main_v18 : Ref sig .tc := ⟨.hbm, 45, rfl⟩
abbrev main_cst_0 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_1 : Ref sig .tc := ⟨.hbm, 52, rfl⟩
abbrev main_v24 : Ref sig .tc := ⟨.hbm, 53, rfl⟩
abbrev main_v25 : Ref sig .tc := ⟨.hbm, 54, rfl⟩
abbrev main_cst_2 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_3 : Ref sig .tc := ⟨.hbm, 63, rfl⟩
abbrev main_v33 : Ref sig .tc := ⟨.hbm, 64, rfl⟩
abbrev main_v34 : Ref sig .tc := ⟨.hbm, 65, rfl⟩
abbrev main_cst_4 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩

abbrev nD : Nat := 1
abbrev τ : Topo := Topo.v7x

variable {F : FTy → Type} [FloatOps F]
-- ==== Proof.BodyRun.lean ====
/- One run of the kernel's body, at any numbers: the body copies its word from the word's array to scalar memory and
   loads it, copies the row of the table that the word names to a buffer of its own, and computes from that row and its
   six input blocks the two results that it stores. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Tactic
public import Idealize.ShloMosaic.Lib.VecWindow

@[expose] public section

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The arrays that the body's own transfers read: the word, -/
abbrev wordM : Memref sig .tc .hbm S1 .i32 := Memref.whole main_v0
/-- and the table. -/
abbrev tableM : Memref sig .tc .hbm S1000000x128 .f32 := Memref.whole main_arg3

/-- Row `w` of the table `T`, for a word `w` that names one of its rows. -/
def tableRow (T : S1000000x128.Idx → Elt F .f32) (w : BitVec 32) (h : k0_chk1 w) : Vec F S1x128 .f32 :=
  fun i => T ((Rect.unit (s := S1000000x128) (k0_off1 w) S1x128.size (k0_off1_inb w h)).idx i)

/-- The one index of a one-element vector. -/
abbrev i0 : S1.Idx := Shape.Idx.first (s := S1) (by decide)

/-- Contents of the whole of the buffer a reference `M` lies in, on core `c`, -/
abbrev HeldAt (c : Dev nD) {sp : Space} {S : Shape} {e : EltTy} (M : Memref sig .tc sp S e) : Type := Buf (Elt F) (M.view.loc (c : Thread nD τ))
/-- and that buffer held in full at such contents. -/
abbrev held (c : Dev nD) {sp : Space} {S : Shape} {e : EltTy} (M : Memref sig .tc sp S e) (f : HeldAt (F := F) c M) : sProp 𝕄 :=
  M.view.loc (c : Thread nD τ) ↦{fullShare} f

/-- The body's run. It is given the six input blocks at `x0` to `x5`, the two output blocks and the two scratch buffers at
    any contents, its two transfer counters at zero, and the word's and the table's arrays at `fw` and `ft`, where the
    word names a row of the table. It ends with the inputs and the two arrays as they were, the counters at zero again, and
    the hidden state and the cell state computed from the table's row in the two output blocks. -/
theorem body_run (c : Dev nD)
    (arg2 : Memref sig .tc .vmem S1x1x128 .f32) (harg2 : arg2.IsWhole) (arg3 : Memref sig .tc .vmem S1x1x128 .f32) (harg3 : arg3.IsWhole)
    (arg4 : Memref sig .tc .vmem S512x128 .f32) (harg4 : arg4.IsWhole) (arg5 : Memref sig .tc .vmem S512x128 .f32) (harg5 : arg5.IsWhole)
    (arg6 : Memref sig .tc .vmem S512 .f32) (harg6 : arg6.IsWhole) (arg7 : Memref sig .tc .vmem S512 .f32) (harg7 : arg7.IsWhole)
    (arg8 : Memref sig .tc .vmem S1x1x128 .f32) (harg8 : arg8.IsWhole) (arg9 : Memref sig .tc .vmem S1x1x128 .f32) (harg9 : arg9.IsWhole)
    (arg10 : Memref sig .tc .smem S1 .i32) (harg10 : arg10.IsWhole) (arg11 : Memref sig .tc .vmem S1x128 .f32) (harg11 : arg11.IsWhole)
    (x0 x1 : Vec F S1x1x128 .f32) (x2 x3 : Vec F S512x128 .f32) (x4 x5 : Vec F S512 .f32)
    (fw : HeldAt (F := F) c wordM) (ft : HeldAt (F := F) c tableM)
    (hchk : k0_chk1 (fw i0)) (W : Waits sig Unit) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ semVal ((c : Thread nD τ), SemLoc.dma 8) 0 ∗ semVal ((c : Thread nD τ), SemLoc.dma 9) 0
        ∗ held c wordM fw ∗ held c tableM ft ∗ owes (c : Thread nD τ) 0 W
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (k0_pay1 (k0_pay5 (tableRow ft (fw i0) hchk) x0 x1 x2 x3 x4 x5))
            ∗ owns (c : Thread nD τ) arg9 fullShare (k0_pay2 (k0_pay4 (tableRow ft (fw i0) hchk) x0 x1 x2 x3 x4 x5))
            ∗ (∃ d, owns (c : Thread nD τ) arg10 fullShare d) ∗ (∃ d, owns (c : Thread nD τ) arg11 fullShare d)
            ∗ semVal ((c : Thread nD τ), SemLoc.dma 8) 0 ∗ semVal ((c : Thread nD τ), SemLoc.dma 9) 0
            ∗ held c wordM fw ∗ held c tableM ft ∗ (∃ W', owes (c : Thread nD τ) 0 W')) -∗ K ⟨⟩))
      ⊢ wp frame (wpE (defs₀ (F := F)) Variants.none c none) Set.univ (cc0__fused_lstm_kernel (Memref.whole main_v0) (Memref.isWhole_whole _) (Memref.whole main_arg3) (Memref.isWhole_whole _) arg2 harg2 arg3 harg3 arg4 harg4 arg5 harg5 arg6 harg6 arg7 harg7 arg8 harg8 arg9 harg9 arg10 harg10 arg11 harg11 cc0_scratch2 cc0_scratch3) K := by
  simp only [cc0__fused_lstm_kernel_eq_skeleton]; unfold cc0__fused_lstm_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, Hq0, Hq1, Hh0, Hh1, HW, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec
  have hr : body_run.sl.r c arg10 fw = fw i0 := by
    unfold body_run.sl.r body_run.sl.f body_run.sl.dma0
    exact congrFun (View.readCov_full arg10.view inb_S1_S1_0 _ fw []) i0
  have hc : k0_chk1 (body_run.sl.r c arg10 fw) := by rw [hr]; exact hchk
  sl_exec
  have hrow : body_run.sl.v3 c arg10 arg11 fw ft hc = tableRow ft (fw i0) hchk := by
    have e : ∀ (w : BitVec 32) (h : k0_chk1 w), w = fw i0 → tableRow ft w h = tableRow ft (fw i0) hchk := by
      rintro _ _ rfl; rfl
    rw [← e _ hc hr]
    unfold body_run.sl.v3 body_run.sl.dma0_1
    exact View.readCov_full arg11.view inb_S1x128_S1x128_0_0 _ _ []
  have hcell : body_run.sl.r_1 c arg2 harg2 arg3 harg3 arg4 harg4 arg5 harg5 arg6 harg6 arg7 harg7 arg10 arg11 x0 x1 x2 x3
      x4 x5 fw ft hc = k0_pay4 (tableRow ft (fw i0) hchk) x0 x1 x2 x3 x4 x5 := by
    unfold body_run.sl.r_1
    rw [hrow, View.readAt_full, View.readAt_full, View.readAt_full, View.readAt_full, View.readAt_full, View.readAt_full,
      hf0, hf1, hf2, hf3, hf4, hf5]
  have hhidden : body_run.sl.r_2 c arg2 harg2 arg3 harg3 arg4 harg4 arg5 harg5 arg6 harg6 arg7 harg7 arg10 arg11 x0 x1 x2 x3
      x4 x5 fw ft hc = k0_pay5 (tableRow ft (fw i0) hchk) x0 x1 x2 x3 x4 x5 := by
    unfold body_run.sl.r_2
    rw [hrow, View.readAt_full, View.readAt_full, View.readAt_full, View.readAt_full, View.readAt_full, View.readAt_full,
      hf0, hf1, hf2, hf3, hf4, hf5]
  rw [hcell, hhidden]
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact harg7.read_unread _
                  iexact H5
  isplitl [H6]; · iexists _; isplitr
                  · ipureintro; exact View.read_writes_full arg8.view f6 inb_S1x1x128_S1x1x128_0_0_0 _ []
                  iexact H6
  isplitl [H7]; · iexists _; isplitr
                  · ipureintro; exact View.read_writes_full arg9.view f7 inb_S1x1x128_S1x1x128_0_0_0 _ []
                  iexact H7
  isplitl [HS0]; · iexists _; iexists _; isplitr; swap; · iexact HS0
                   ipureintro; rfl
  isplitl [HS1]; · iexists _; iexists _; isplitr; swap; · iexact HS1
                   ipureintro; rfl
  isplitl [Hq0]; · iexact Hq0
  isplitl [Hq1]; · iexact Hq1
  isplitl [Hh0]; · iexact Hh0
  isplitl [Hh1]; · iexact Hh1
  iexists _; iexact HW

end Cert.Proof

end
-- ==== Proof.Launch.lean ====
/- The launch of the kernel, at any numbers: what the body is handed besides its windows, what it leaves in each window, and
   from these every execution of the program. The program ends, its arguments are as they were, and its counters are
   at zero. -/
module

public import proofs.«01_k».proof.Proof.BodyRun
public import Idealize.ShloMosaic.Lib.Claim

@[expose] public section

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The word the program is launched with, on core `c`. -/
def word (c : Dev nD) : BitVec 32 := V m c main_v0 i0

/-- Every core's word names a row of the table. -/
def WordOK : Prop := ∀ c : Dev nD, k0_chk1 (word m c)

/-! ### What the launch hands the body besides its windows -/

/-- The body's two transfer counters. -/
abbrev counters : Fin 2 → SemLoc sig := fun j => (![SemLoc.dma 8, SemLoc.dma 9] : Fin 2 → SemLoc sig) j

/-- Neither counter is one the windows use. -/
theorem counters_own : Pipeline.OwnSemFacts spec0 counters := by decide

/-- The two arrays the body reads in HBM by its own transfers: the word and the table. -/
def readInPlace : Finset (Ref sig .tc) := {main_v0, main_arg3}

/-- Neither is an array of a window. -/
theorem readInPlace_sub : readInPlace ⊆ Pipeline.restRefs sig spec0 := by decide

/-- What the body holds besides its windows, part by part: the two scratch buffers at some contents, the generator
    register, the two counters at zero, and the word and the table as launched. -/
theorem rest_eq (c : Dev nD) :
    (Pipeline.ΦD counters spec0 readInPlace (V m) c : sProp 𝕄)
      = iprop(((∃ d, owns (c : Thread nD τ) (Memref.whole cc0_scratch1) fullShare d) ∗ (∃ d, owns (c : Thread nD τ) (Memref.whole cc0_scratch0) fullShare d))
          ∗ (∃ r, prngReg c r)
          ∗ (semVal ((c : Thread nD τ), SemLoc.dma 8) 0 ∗ semVal ((c : Thread nD τ), SemLoc.dma 9) 0)
          ∗ (held c wordM (V m c main_v0) ∗ held c tableM (V m c main_arg3))) := by
  rw [Pipeline.ΦD_eq, scopedRest0_eq, Pipeline.ownSems0_eq_of_list c counters [0, 1] (by decide) (by decide),
    BI.bigSep_eq_bigSepL_of_eq [main_v0, main_arg3] (by decide) (by decide)]
  simp only [owns_whole]
  rfl

/-- @main up to the kernel: the reshape of the word, then the kernel. -/
theorem main_prefix : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

/-! ### The body's results and the proof data -/

variable (hw : WordOK m)

/-- The two results the body computes on core `c` from its blocks and its row of the table: the hidden state, -/
def hiddenOut (c : Dev nD) (t : Fin cfg0.N) : Vec F S1x1x128 .f32 :=
  k0_pay1 (k0_pay5 (tableRow (V m c main_arg3) (word m c) (hw c)) (iblk m c 0 t) (iblk m c 1 t) (iblk m c 2 t) (iblk m c 3 t) (iblk m c 4 t) (iblk m c 5 t))

/-- and the cell state. -/
def cellOut (c : Dev nD) (t : Fin cfg0.N) : Vec F S1x1x128 .f32 :=
  k0_pay2 (k0_pay4 (tableRow (V m c main_arg3) (word m c) (hw c)) (iblk m c 0 t) (iblk m c 1 t) (iblk m c 2 t) (iblk m c 3 t) (iblk m c 4 t) (iblk m c 5 t))

/-- The pipeline's proof data: the arrays as the kernel finds them; after the body the six inputs' blocks as they were
    and the two results. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hiddenOut m hw c t
    | ⟨7, _⟩ => cellOut m hw c t
  Φ _ := Pipeline.ΦD counters spec0 readInPlace (V m) c
  q _ := fullShare
  owed _ := 0

/-- The proof data's arrays are those the kernel finds. -/
theorem dats_A (c : Dev nD) (w : Fin cfg0.W) : (dats m hw 0 c).A w = V m c (Pipeline.arrRef spec0 w) := by
  dsimp only [dats]

/-- Each input's staging buffer holds the input's block when the body starts. -/
theorem found (c : Dev nD) (t : Fin cfg0.N) :
    (∀ d, (dats m hw 0 c).before 0 t d = iblk m c 0 t) ∧ (∀ d, (dats m hw 0 c).before 1 t d = iblk m c 1 t)
      ∧ (∀ d, (dats m hw 0 c).before 2 t d = iblk m c 2 t) ∧ (∀ d, (dats m hw 0 c).before 3 t d = iblk m c 3 t)
      ∧ (∀ d, (dats m hw 0 c).before 4 t d = iblk m c 4 t) ∧ (∀ d, (dats m hw 0 c).before 5 t d = iblk m c 5 t) := by
  refine ⟨fun d => ?_, fun d => ?_, fun d => ?_, fun d => ?_, fun d => ?_, fun d => ?_⟩ <;>
    refine ((dats m hw 0 c).before_in_eq_fetched _ rfl (fun _ => rfl) (fun _ _ _ => rfl) (fun t => ?_) t d).trans ?_ <;>
    first
    | (dsimp only [dats]; unfold Dat.blockOf iblk; rfl)
    | (unfold Dat.fetched Dat.blockOf iblk; rfl)

/-- One call of the body: from the invariant and the windows' staging buffers as the proof data say they are found, to
    the invariant and the staging buffers as the proof data say they are left. -/
theorem body_call (c : Dev nD) (t : Fin cfg0.N) :
    iprop((dats m hw 0 c).Φ t.castSucc ∗ (dats m hw 0 c).owesAt () t.castSucc
      ∗ (∃ d, owns (c : Thread nD τ) (st0_0 t) fullShare ((dats m hw 0 c).before 0 t d))
      ∗ (∃ d, owns (c : Thread nD τ) (st0_1 t) fullShare ((dats m hw 0 c).before 1 t d))
      ∗ (∃ d, owns (c : Thread nD τ) (st0_2 t) fullShare ((dats m hw 0 c).before 2 t d))
      ∗ (∃ d, owns (c : Thread nD τ) (st0_3 t) fullShare ((dats m hw 0 c).before 3 t d))
      ∗ (∃ d, owns (c : Thread nD τ) (st0_4 t) fullShare ((dats m hw 0 c).before 4 t d))
      ∗ (∃ d, owns (c : Thread nD τ) (st0_5 t) fullShare ((dats m hw 0 c).before 5 t d))
      ∗ (∃ d, owns (c : Thread nD τ) (st0_6 t) fullShare ((dats m hw 0 c).before 6 t d))
      ∗ (∃ d, owns (c : Thread nD τ) (st0_7 t) fullShare ((dats m hw 0 c).before 7 t d)))
    ⊢ wp frame (wpE (defs₀ (F := F)) Variants.none c none) Set.univ (bodyAt0 t) (fun _ =>
      iprop((dats m hw 0 c).Φ t.succ ∗ (dats m hw 0 c).owesAt () t.succ
        ∗ owns (c : Thread nD τ) (st0_0 t) fullShare ((dats m hw 0 c).after 0 t)
        ∗ owns (c : Thread nD τ) (st0_1 t) fullShare ((dats m hw 0 c).after 1 t)
        ∗ owns (c : Thread nD τ) (st0_2 t) fullShare ((dats m hw 0 c).after 2 t)
        ∗ owns (c : Thread nD τ) (st0_3 t) fullShare ((dats m hw 0 c).after 3 t)
        ∗ owns (c : Thread nD τ) (st0_4 t) fullShare ((dats m hw 0 c).after 4 t)
        ∗ owns (c : Thread nD τ) (st0_5 t) fullShare ((dats m hw 0 c).after 5 t)
        ∗ owns (c : Thread nD τ) (st0_6 t) fullShare ((dats m hw 0 c).after 6 t)
        ∗ owns (c : Thread nD τ) (st0_7 t) fullShare ((dats m hw 0 c).after 7 t))) := by
  obtain ⟨b0, b1, b2, b3, b4, b5⟩ := found m hw c t
  unfold bodyAt0
  simp only [b0, b1, b2, b3, b4, b5]
  rw [show (dats m hw 0 c).Φ t.succ = (dats m hw 0 c).Φ t.castSucc from rfl,
    show (dats m hw 0 c).Φ t.castSucc = Pipeline.ΦD counters spec0 readInPlace (V m) c from rfl, rest_eq]
  unfold Dat.owesAt Pipeline.owesWithin
  rw [show (dats m hw 0 c).owed t.castSucc = 0 from rfl, show (dats m hw 0 c).owed t.succ = 0 from rfl]
  dsimp only [dats]
  unfold hiddenOut cellOut
  iintro ⟨⟨⟨HS1, HS0⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c _ _ _ _ _ _ _ _ _ _ _ _ _ _ _ _ _ _ _ _ (iblk m c 0 t) (iblk m c 1 t) (iblk m c 2 t) (iblk m c 3 t)
    (iblk m c 4 t) (iblk m c 5 t) (V m c main_v0) (V m c main_arg3) (hw c) W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  isplitl [Hq0]; · iexact Hq0
  isplitl [Hq1]; · iexact Hq1
  isplitl [Hh0]; · iexact Hh0
  isplitl [Hh1]; · iexact Hh1
  isplitl [HW]; · iexact HW
  iintro ⟨H0, H1, H2, H3, H4, H5, H6, H7, HS0, HS1, Hq0, Hq1, Hh0, Hh1, ⟨%W', HW'⟩⟩
  isplitl [HS1 HS0 Hg Hq0 Hq1 Hh0 Hh1]
  · isplitl [HS1 HS0]
    · isplitl [HS1]; · iexact HS1
      iexact HS0
    isplitl [Hg]; · iexact Hg
    isplitl [Hq0 Hq1]
    · isplitl [Hq0]; · iexact Hq0
      iexact Hq1
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body meets its obligation at the pipeline's one point. -/
theorem body_obligation (c : Dev nD) : BodyObligation (dats (F := F) m hw 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (body_call m hw c t) rfl .rfl fun _ => .rfl

/-! ### The run -/

-- the launch theorem's implicit arguments are found by unfolding definitions in the types of unknowns
set_option backward.isDefEq.respectTransparency.types false in
/-- From any memory whose words name rows of the table, every execution ends, with the windows' arrays as the proof data
    say, every other array as the kernel found it, and every counter at zero. -/
theorem run : θ_run defs (onTc (τ := τ) (main (F := F))) (s₀ m ρ)
    (fun r => Pipeline.FramePost cfgs (dats m hw) 0 (V m) r ∧ r.2.sem = fun _ => 0) :=
  Pipeline.θ_run_frame_dma (Q' := _) cfgs (dats m hw) (0 : Fin 1) launch0 counters defs₀ Variants.none counters_own
    readInPlace readInPlace_sub m ρ main
    (hbody := fun c => (body_obligation m hw c).loose) (hshare := fun c => (dats m hw 0 c).share_full fun _ => rfl)
    (howed := fun _ _ => rfl) (V := V m) (hmain := main_prefix m) (hA := dats_A m hw)
    (hin := fun _ => .rfl) (hout := fun _ => .rfl)

/-- The arguments' arrays hold what they were launched with. -/
def ArgsKept (mem : (ℓ : Loc nD τ sig) → Buf (Elt F) ℓ) : Prop := ∀ c : Dev nD,
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)

include hw in
/-- The arrays of a final state as `run` describes it: the arguments' as launched. -/
theorem args_kept {r : PUnit × MemSt nD τ sig (Elt F)} (h : Pipeline.FramePost cfgs (dats m hw) 0 (V m) r) : ArgsKept m r.2.mem := fun c => by
  have win : ∀ w : Fin 8, (cfg0.win w).isOut = false → r.2.mem ((c.tc : Thread nD τ).loc (Pipeline.arrRef spec0 w)) = V m c (Pipeline.arrRef spec0 w) :=
    fun w hin => ((h c).1 w).trans (((dats m hw 0 c).arrAt_in w hin _).trans (dats_A m hw c w))
  have other : ∀ b : Ref sig .tc, b ∈ Pipeline.restRefs sig spec0 → r.2.mem ((c.tc : Thread nD τ).loc b) = V m c b := (h c).2
  exact ⟨(other main_arg0 (by decide)).trans (V_main_arg0 m c), (win 0 rfl).trans (V_main_arg1 m c), (win 1 rfl).trans (V_main_arg2 m c),
    (other main_arg3 (by decide)).trans (V_main_arg3 m c), (win 2 rfl).trans (V_main_arg4 m c), (win 3 rfl).trans (V_main_arg5 m c),
    (win 4 rfl).trans (V_main_arg6 m c), (win 5 rfl).trans (V_main_arg7 m c)⟩

include hw in
/-- The program leaves its arguments as they were and every counter at zero. -/
theorem frame_kept : θ_run defs (onTc (τ := τ) (main (F := F))) ⟨m, fun _ => 0, ρ⟩ (fun r => ArgsKept m r.2.mem ∧ r.2.sem = fun _ => 0) :=
  (θ_run defs _ _).mono (fun _ h => ⟨args_kept m hw h.1, h.2⟩) (run m ρ hw)

end Cert.Proof

end
-- ==== Proof.Lookup.lean ====
/- The row of the embedding table that a word number selects, and what the precondition says of that number. -/
module

public import Idealize.ShloMosaic.Lib.ValueIdx
public import Idealize.ShloMosaic.Lib.WordCmp
public import proofs.«01_k».proof.Proof.Gen.Pre_word_in_table

@[expose] public section

noncomputable section

namespace Cert.Proof

open Cert.Pre_word_in_table
open Idealize.ShloMosaic Idealize.ShloMosaic.ValueIdx

variable {F : FTy → Type} [FloatOps F]

/-- Row `w` of a table of a million rows. -/
def lookup (T : FVec F S1000000x128 .f32) (w : BitVec 32) (h : w.toNat < 1000000) : FVec F ⟨2, ![1, 128]⟩ .f32 :=
  fun i => T (ix2 ⟨w.toNat, h⟩ (i 1))

/-- The precondition says that the word, read unsigned, is below the table's length. -/
theorem word_below {a0 : IVec S_ 32} {a1 a2 : FVec F S1x1x128 .f32} {a3 : FVec F S1000000x128 .f32} {a4 a5 : FVec F S512x128 .f32}
    {a6 a7 : FVec F S512 .f32} (h : fn a0 a1 a2 a3 a4 a5 a6 a7 = fun _ => 1#1) : (a0 ix0).toNat < 1000000 := by
  have h0 : IntOp.andi (IntOp.cmpi .sge (a0 ix0) 0#32) (IntOp.cmpi .slt (a0 ix0) (BitVec.ofNat 32 1000000)) = 1#1 := congrFun h ix0
  rw [WordCmp.andi_sge_zero_slt_ofNat (by decide)] at h0
  exact (WordCmp.ofBool_decide_eq_one_iff _).1 h0

end Cert.Proof

end
-- ==== Proof.Results.lean ====
/- What the kernel's program leaves in its two output arrays, written as functions of what its arguments held: the word
   that selects the row is the integer argument, the row is the table's row of that number, the block of each input
   window is the whole of its array, and the one block that each output window writes back is the whole of its. -/
module

public import proofs.«01_k».proof.Proof.Launch
public import proofs.«01_k».proof.Proof.Lookup
public import Idealize.ShloMosaic.Lib.Pipeline.ValueKit
public import Idealize.ShloMosaic.Lib.StableHlo.ReadAt

@[expose] public section

noncomputable section

namespace Cert.Proof

open Cert.KernelIdeal Cert.KernelIdeal.Gen
open Idealize.ShloMosaic Idealize.ShloMosaic.TcCoe Idealize.ShloMosaic.Tactic Idealize.ShloMosaic.ValueIdx
open Idealize.SL.Sem

variable {F : FTy → Type} [FloatOps F]

/-- The side condition that the body assumes of its word holds of every word below the table's length. -/
theorem names_row {w : BitVec 32} (hlt : w.toNat < 1000000) : k0_chk1 w
  | ⟨0, _⟩ => by show w.toNat + 1 ≤ 1000000; omega
  | ⟨1, _⟩ => by show 0 + 128 ≤ 128; omega

/-- The row that the body's transfer brings is the table's row of the word's number. -/
theorem tableRow_eq (T : FVec F S1000000x128 .f32) {w : BitVec 32} (h : k0_chk1 w) (hlt : w.toNat < 1000000) :
    tableRow T w h = lookup T w hlt := by
  funext i
  refine congrArg T (funext fun a => Fin.ext ?_)
  match a with
  | ⟨0, _⟩ =>
    have h0 : (i 0).val < 1 := (i 0).isLt
    show w.toNat + 1 * (i 0).val = w.toNat
    omega
  | ⟨1, _⟩ =>
    show 0 + 1 * (i 1).val = (i 1).val
    omega

variable (m : (ℓ : Loc nD τ sig) → Buf (Elt F) ℓ) (ρ : Dev nD → PrngReg)

/-- Device `c`'s integer argument. -/
abbrev argWord (c : Dev nD) : BitVec 32 := (m ((c.tc : Thread nD τ).loc main_arg0) : IVec S_ 32) ValueIdx.ix0

/-- The word that the body loads is the integer argument. -/
theorem word_eq (c : Dev nD) : word m c = argWord m c := by
  unfold word V
  after_results_simp
  exact congrArg (m ((c.tc : Thread nD τ).loc main_arg0)) (funext fun a => a.elim0)

/-- Every device's integer argument is below the table's length. -/
def Below : Prop := ∀ c : Dev nD, (argWord m c).toNat < 1000000

/-- Then every device's word names a row of the table. -/
theorem Below.wordOK {m : (ℓ : Loc nD τ sig) → Buf (Elt F) ℓ} (hb : Below m) : WordOK m := fun c => by
  rw [word_eq]
  exact names_row (hb c)

/-- The block of each input window is the whole of its argument. -/
theorem blocks_whole (c : Dev nD) :
    iblk m c 0 t0_0 = m ((c.tc : Thread nD τ).loc main_arg1) ∧ iblk m c 1 t0_0 = m ((c.tc : Thread nD τ).loc main_arg2)
      ∧ iblk m c 2 t0_0 = m ((c.tc : Thread nD τ).loc main_arg4) ∧ iblk m c 3 t0_0 = m ((c.tc : Thread nD τ).loc main_arg5)
      ∧ iblk m c 4 t0_0 = m ((c.tc : Thread nD τ).loc main_arg6) ∧ iblk m c 5 t0_0 = m ((c.tc : Thread nD τ).loc main_arg7) := by
  have first : ∀ n i k : ℕ, i = 0 → i * n + k = k := fun n i k h => by rw [h, Nat.zero_mul, Nat.zero_add]
  rw [← V_main_arg1 m c, ← V_main_arg2 m c, ← V_main_arg4 m c, ← V_main_arg5 m c, ← V_main_arg6 m c, ← V_main_arg7 m c]
  refine ⟨?_, ?_, ?_, ?_, ?_, ?_⟩ <;>
  · funext j
    unfold iblk
    blk_simp
    congr 1
    funext a
    apply Fin.ext
    blk_simp
    exact first _ _ _ rfl

/-- The kernel's new hidden state on device `c`, of what its arguments held, -/
def newHidden (hb : Below m) (c : Dev nD) : FVec F S1x128 .f32 :=
  k0_pay5 (lookup (m ((c.tc : Thread nD τ).loc main_arg3)) (argWord m c) (hb c)) (m ((c.tc : Thread nD τ).loc main_arg1)) (m ((c.tc : Thread nD τ).loc main_arg2))
    (m ((c.tc : Thread nD τ).loc main_arg4)) (m ((c.tc : Thread nD τ).loc main_arg5)) (m ((c.tc : Thread nD τ).loc main_arg6)) (m ((c.tc : Thread nD τ).loc main_arg7))

/-- and its new cell state. -/
def newCell (hb : Below m) (c : Dev nD) : FVec F S1x128 .f32 :=
  k0_pay4 (lookup (m ((c.tc : Thread nD τ).loc main_arg3)) (argWord m c) (hb c)) (m ((c.tc : Thread nD τ).loc main_arg1)) (m ((c.tc : Thread nD τ).loc main_arg2))
    (m ((c.tc : Thread nD τ).loc main_arg4)) (m ((c.tc : Thread nD τ).loc main_arg5)) (m ((c.tc : Thread nD τ).loc main_arg6)) (m ((c.tc : Thread nD τ).loc main_arg7))

/-- What the body reads its row from and by, in terms of the arguments. -/
theorem row_read (hb : Below m) (c : Dev nD) :
    tableRow (V m c main_arg3) (word m c) (hb.wordOK c) = lookup (m ((c.tc : Thread nD τ).loc main_arg3)) (argWord m c) (hb c) := by
  have e : ∀ (w : BitVec 32) (h : k0_chk1 w) (e : w = argWord m c),
      tableRow (V m c main_arg3) w h = lookup (m ((c.tc : Thread nD τ).loc main_arg3)) (argWord m c) (hb c) := by
    rintro w h rfl
    rw [tableRow_eq _ h (hb c), V_main_arg3]
  exact e _ _ (word_eq m c)

/-- The array of the first output window ends holding the new hidden state with a leading axis, -/
theorem hidden_array (hb : Below m) (c : Dev nD) :
    (dats m hb.wordOK 0 c).arrAt 6 cfg0.N = shapeCast S1x1x128 (newHidden m hb c) shapeCasts_S1x128_S1x1x128 := by
  refine (dats m hb.wordOK 0 c).arrAt_eq_of_after_last 6 t0_0 (by decide +kernel) _ fun j => ?_
  obtain ⟨e0, e1, e2, e3, e4, e5⟩ := blocks_whole m c
  blk_simp
  dsimp only [dats]
  unfold hiddenOut
  rw [row_read, e0, e1, e2, e3, e4, e5]
  rfl

/-- and that of the second the new cell state. -/
theorem cell_array (hb : Below m) (c : Dev nD) :
    (dats m hb.wordOK 0 c).arrAt 7 cfg0.N = shapeCast S1x1x128 (newCell m hb c) shapeCasts_S1x128_S1x1x128 := by
  refine (dats m hb.wordOK 0 c).arrAt_eq_of_after_last 7 t0_0 (by decide +kernel) _ fun j => ?_
  obtain ⟨e0, e1, e2, e3, e4, e5⟩ := blocks_whole m c
  blk_simp
  dsimp only [dats]
  unfold cellOut
  rw [row_read, e0, e1, e2, e3, e4, e5]
  rfl

/-- From any memory whose words are below the table's length, every execution ends with the new hidden state and the new
    cell state in the two output arrays, and with the arguments as they were. -/
theorem kernel_results (hb : Below m) :
    θ_run defs (onTc (τ := τ) (main (F := F))) ⟨m, fun _ => 0, ρ⟩ (fun r =>
      (∀ c : Dev nD, r.2.mem ((c.tc : Thread nD τ).loc main_v1_0) = shapeCast S1x1x128 (newHidden m hb c) shapeCasts_S1x128_S1x1x128
        ∧ r.2.mem ((c.tc : Thread nD τ).loc main_v1_1) = shapeCast S1x1x128 (newCell m hb c) shapeCasts_S1x128_S1x1x128)
      ∧ ArgsKept m r.2.mem) :=
  (θ_run defs _ _).mono (fun _ h => ⟨fun c => ⟨((h.1 c).1 6).trans (hidden_array m hb c), ((h.1 c).1 7).trans (cell_array m hb c)⟩,
    args_kept m hb.wordOK h.1⟩) (run m ρ hb.wordOK)

end Cert.Proof

end
-- ==== Proof.Same.lean ====
/- The program as printed for the machine and the program whose numbers are read as extended reals are the same text over
   any numbers: what is proved of the second at any numbers holds of the first. -/
module

public import proofs.«01_k».proof.Proof.Launch
public import proofs.«01_k».proof.Proof.Gen.Kernel

@[expose] public section

noncomputable section

namespace Cert.Proof

open Idealize.ShloMosaic Idealize.SL.Sem

variable {F : FTy → Type} [FloatOps F]

/-- The two programs' kernel bodies are the same. -/
theorem bodies_same : Cert.Kernel.defs₀ (F := F) = Cert.KernelIdeal.defs₀ := by
  unfold Cert.Kernel.defs₀ Cert.KernelIdeal.defs₀
  congr 1
  funext l args
  match l, args with
  | ⟨0, _⟩, (_, _) => rfl

/-- So are the bodies together with the pipeline's own. -/
theorem defs_same : Cert.Kernel.defs (F := F) = Cert.KernelIdeal.defs := by
  unfold Cert.Kernel.defs Cert.KernelIdeal.defs
  exact congrArg (Pipeline.defs Cert.KernelIdeal.pcfgs) bodies_same

end Cert.Proof

end
-- ==== Proof.Reference.lean ====
/- The reference's results over the extended reals as functions of its arguments, step by step: the row of the table, the four
   gates, and the two new states. With a word in the table's range its row is the table's row of that number, and its
   sigmoid is the logistic function that the kernel applies. -/
module

public import proofs.«01_k».proof.Proof.Gen.ReferenceIdeal.Run
public import proofs.«01_k».proof.Proof.Lookup
public import Idealize.ShloMosaic.Lib.IdealHost
public import Idealize.ShloMosaic.Lib.ReduceAll
public import Idealize.ShloMosaic.Lib.Pipeline.Value

@[expose] public section

noncomputable section

namespace Cert.Proof

open Cert.ReferenceIdeal Cert.ReferenceIdeal.Gen
open Idealize.ShloMosaic Idealize.ShloMosaic.TcCoe Idealize.ShloMosaic.ValueIdx
open Idealize.SL.Sem

/-- The index the reference reads the table at: the word, with the table's length added to it if it is negative. -/
def refIndex (w : IVec S_ 32) : IVec S1 32 :=
  broadcastInDim S1 ![] bcast_S_S1 (select (cmpi .slt w (constantI S_ 32 0#32)) (addi w (constantI S_ 32 1000000#32)) w)

/-- The reference's row of the table: the row at the index if the index is in the table, and otherwise a constant. -/
def refRow (w : IVec S_ 32) (T : FVec Ideal S1000000x128 .f32) : FVec Ideal S1x128 .f32 :=
  shapeCast S1x128 (shapeCast S1x1x128 (select
    (broadcastInDim S128 ![] bcast_S_S128 (Host.reduce IntOp.andi
      (andi (cmpi .sge (refIndex w) (broadcastInDim S1 ![] bcast_S_S1 (constantI S_ 32 0#32))) (cmpi .sle (refIndex w) (constantI S1 32 999999#32)))
      (constantI S_ 1 1#1) reducesTo_S1_S_d0 h_S_))
    (Host.gather gather_S1000000x128_S1_S128_0_0_n_n_0_0_1128 T (refIndex w))
    (broadcastInDim S128 ![] bcast_S_S128 (constant S_ .f32 0x7FC00000#32))) shapeCasts_S128_S1x1x128) shapeCasts_S1x1x128_S1x128

/-- The reference's four gates, before their activations, side by side. -/
def refGates (x : FVec Ideal S1x128 .f32) (h : FVec Ideal S1x1x128 .f32) (W U : FVec Ideal S512x128 .f32) (b d : FVec Ideal S512 .f32) : FVec Ideal S1x512 .f32 :=
  addf (addf (addf
      (Host.dotGeneral dot_S1x128_S128x512_S1x512_1_0_0_1_n_n none x (transpose S128x512 [1, 0] W transposes_S512x128_S128x512_1_0))
      (broadcastInDim S1x512 ![1] bcast_S512_S1x512_1 b))
      (Host.dotGeneral dot_S1x128_S128x512_S1x512_1_0_0_1_n_n none (shapeCast S1x128 h shapeCasts_S1x1x128_S1x128) (transpose S128x512 [1, 0] U transposes_S512x128_S128x512_1_0)))
    (broadcastInDim S1x512 ![1] bcast_S512_S1x512_1 d)

/-- The reference's sigmoid: 1 / (1 + exp (-x)). -/
def refSigmoid (x : FVec Ideal S1x128 .f32) : FVec Ideal S1x128 .f32 :=
  Host.divf (broadcastInDim S1x128 ![] bcast_S_S1x128 (constant S_ .f32 0x3F800000#32))
    (addf (broadcastInDim S1x128 ![] bcast_S_S1x128 (constant S_ .f32 0x3F800000#32)) (Host.exp (Host.negf x)))

/-- The reference's new cell state, of its gates and the old cell state. -/
def refCell (g : FVec Ideal S1x512 .f32) (cell : FVec Ideal S1x1x128 .f32) : FVec Ideal S1x128 .f32 :=
  addf (mulf (refSigmoid (extractStridedSlice S1x128 ![0, 128] g slices_S1x512_S1x128_0_128)) (shapeCast S1x128 cell shapeCasts_S1x1x128_S1x128))
    (mulf (refSigmoid (extractStridedSlice S1x128 ![0, 0] g slices_S1x512_S1x128_0_0)) (Host.tanh (extractStridedSlice S1x128 ![0, 256] g slices_S1x512_S1x128_0_256)))

/-- The reference's new hidden state, of the same. -/
def refHidden (g : FVec Ideal S1x512 .f32) (cell : FVec Ideal S1x1x128 .f32) : FVec Ideal S1x128 .f32 :=
  mulf (refSigmoid (extractStridedSlice S1x128 ![0, 384] g slices_S1x512_S1x128_0_384)) (Host.tanh (refCell g cell))

variable (m : (ℓ : Loc nD τ sig) → Buf (Elt Ideal) ℓ) (c : Dev nD)

/-- The reference's gates on device `c`, of what its arguments hold. -/
def refGatesOf : FVec Ideal S1x512 .f32 :=
  refGates (refRow (m ((c.tc : Thread nD τ).loc main_arg0)) (m ((c.tc : Thread nD τ).loc main_arg3))) (m ((c.tc : Thread nD τ).loc main_arg1))
    (m ((c.tc : Thread nD τ).loc main_arg4)) (m ((c.tc : Thread nD τ).loc main_arg5)) (m ((c.tc : Thread nD τ).loc main_arg6)) (m ((c.tc : Thread nD τ).loc main_arg7))

set_option maxRecDepth 8192 in
/-- The reference's three results in these terms: the hidden state twice, and the cell state. -/
theorem ref_results :
    Value.res_out0 m c = shapeCast S1x1x128 (refHidden (refGatesOf m c) (m ((c.tc : Thread nD τ).loc main_arg2))) shapeCasts_S1x128_S1x1x128
    ∧ Value.res_out1 m c = shapeCast S1x1x128 (refHidden (refGatesOf m c) (m ((c.tc : Thread nD τ).loc main_arg2))) shapeCasts_S1x128_S1x1x128
    ∧ Value.res_out2 m c = shapeCast S1x1x128 (refCell (refGatesOf m c) (m ((c.tc : Thread nD τ).loc main_arg2))) shapeCasts_S1x128_S1x1x128 :=
  ⟨by unfold Value.res_out0 Value.res_main_v42; rfl, by unfold Value.res_out1 Value.res_main_v43; rfl, by unfold Value.res_out2 Value.res_main_v44; rfl⟩

/-- A word below the table's length is the index itself. -/
theorem refIndex_eq (w : IVec S_ 32) (hlt : (w ix0).toNat < 1000000) (i : S1.Idx) : refIndex w i = w ix0 := by
  have e : refIndex w i = Scalar.select (IntOp.cmpi .slt (w ix0) 0#32) (IntOp.addi (w ix0) 1000000#32) (w ix0) :=
    broadcastInDim_scalar_apply _ _ i
  rw [e, WordCmp.cmpi_slt_zero, Scalar.select, if_neg]
  intro hc
  have := (WordCmp.ofBool_decide_eq_one_iff _).1 hc
  omega

/-- A one-row matrix's index is its column. -/
theorem row_idx (i : S1x128.Idx) : ∃ k : Fin 128, i = ix2 (0 : Fin 1) k :=
  ⟨i 1, funext fun | ⟨0, _⟩ => Subsingleton.elim (α := Fin 1) _ _ | ⟨1, _⟩ => rfl⟩

/-- A vector of 128 numbers with two leading axes put on and one taken off, read at an index. -/
theorem row_cast_apply (x : FVec Ideal S128 .f32) (k : Fin 128) :
    shapeCast S1x128 (shapeCast S1x1x128 x shapeCasts_S128_S1x1x128) shapeCasts_S1x1x128_S1x128 (ix2 (0 : Fin 1) k) = x (ix1 k) := by
  refine (shapeCast_apply _ _ _ (ix3 (0 : Fin 1) (0 : Fin 1) k) ?_).trans (shapeCast_apply _ _ _ (ix1 k) ?_)
  · rw [Shape.rowMajor_val_three, Shape.rowMajor_val_two]
    show (0 * 1 + 0) * 128 + k.val = 0 * 128 + k.val
    omega
  · rw [Shape.rowMajor_val_three, Shape.rowMajor_val_one]
    show k.val = (0 * 1 + 0) * 128 + k.val
    omega

/-- The gather at an index that names a row reads that row. -/
theorem gather_apply (T : FVec Ideal S1000000x128 .f32) (I : IVec S1 32) (w : BitVec 32) (hI : ∀ i, I i = w) (hlt : w.toNat < 1000000)
    (k : Fin 128) : Host.gather gather_S1000000x128_S1_S128_0_0_n_n_0_0_1128 T I (ix1 k) = T (ix2 ⟨w.toNat, hlt⟩ k) := by
  have hw : w.toInt = w.toNat := WordCmp.toInt_eq_toNat_of_lt_half (by omega)
  unfold Host.gather
  congr 1
  funext a
  refine Fin.ext ?_
  match a with
  | ⟨0, _⟩ =>
    show min (I _).toInt.toNat 999999 + 0 + 0 = w.toNat
    rw [hI, hw]
    omega
  | ⟨1, _⟩ =>
    show 0 + 0 + k.val = k.val
    omega

/-- With a word below the table's length, the reference's row is the table's row of that number. -/
theorem refRow_eq (w : IVec S_ 32) (T : FVec Ideal S1000000x128 .f32) (hlt : (w ix0).toNat < 1000000) :
    refRow w T = lookup T (w ix0) hlt := by
  have inside : ∀ i : S1.Idx, andi (cmpi .sge (refIndex w) (broadcastInDim S1 ![] bcast_S_S1 (constantI S_ 32 0#32)))
      (cmpi .sle (refIndex w) (constantI S1 32 999999#32)) i = 1#1 := fun i => by
    show IntOp.andi (IntOp.cmpi .sge (refIndex w i) 0#32) (IntOp.cmpi .sle (refIndex w i) (BitVec.ofNat 32 999999)) = 1#1
    rw [refIndex_eq w hlt, WordCmp.cmpi_sge_zero, WordCmp.cmpi_sle_of_lt (by omega) (by decide), WordCmp.andi_ofBool,
      WordCmp.ofBool_eq_one_iff, Bool.and_eq_true, decide_eq_true_eq, decide_eq_true_eq]
    exact ⟨by omega, by show (w ix0).toNat ≤ 999999; omega⟩
  funext i
  obtain ⟨k, rfl⟩ := row_idx i
  unfold refRow
  rw [row_cast_apply, select_apply, broadcastInDim_scalar_apply, Host.reduce_andi_one _ _ _ _ _ rfl inside]
  exact gather_apply T _ _ (refIndex_eq w hlt) hlt _

/-- The reference's sigmoid is the logistic function. -/
theorem refSigmoid_eq (x : FVec Ideal S1x128 .f32) : refSigmoid x = logistic x := by
  funext i
  show Ideal.div (Ideal.ofBits .f32 0x3F800000#32) (Ideal.ofBits .f32 0x3F800000#32 + Ideal.exp (-x i)) = Ideal.logistic (x i)
  rw [Ideal.ofBits_one_f32]
  rfl

end Cert.Proof

end
-- ==== Proof.Compare.lean ====
/- The kernel's arithmetic and the reference's agree over the extended reals: each product is the same sum, the biases are added in
   another order, and the activations are the same functions. -/
module

public import proofs.«01_k».proof.Proof.Reference
public import proofs.«01_k».proof.Proof.Gen.KernelIdeal.Skeleton
public import Idealize.ShloMosaic.Lib.MatmulPlain
public import Idealize.ShloMosaic.Lib.StackMember
public import Idealize.ShloMosaic.Lib.ValueLayout

@[expose] public section

noncomputable section

namespace Cert.Proof

open Cert.KernelIdeal Cert.KernelIdeal.Gen
open Idealize.ShloMosaic Idealize.ShloMosaic.ValueIdx

/-- The index of a one-row matrix of 512 columns is its column. -/
theorem gate_idx (i : S1x512.Idx) : ∃ k : Fin 512, i = ix2 (0 : Fin 1) k :=
  ⟨i 1, funext fun | ⟨0, _⟩ => Subsingleton.elim (α := Fin 1) _ _ | ⟨1, _⟩ => rfl⟩

/-- The kernel's product of a row with a matrix's rows is the reference's product of the row with the transposed matrix. -/
theorem product_eq (x : FVec Ideal S1x128 .f32) (W : FVec Ideal S512x128 .f32) :
    matmul dot_S1x128_S512x128_S1x512_1_1_0_0_n_n none x W (constant S1x512 .f32 0x00000000#32)
      = Host.dotGeneral Cert.ReferenceIdeal.dot_S1x128_S128x512_S1x512_1_0_0_1_n_n none x
          (transpose Cert.ReferenceIdeal.S128x512 [1, 0] W Cert.ReferenceIdeal.Gen.transposes_S512x128_S128x512_1_0) := by
  funext i
  obtain ⟨k, rfl⟩ := gate_idx i
  refine (Ideal.matmul_transposedRhs_apply (M := 1) (K := 128) (N := 512) none x W _ 0 k).trans ?_
  refine Eq.trans ?_ (StackMember.dotGeneral_plain_apply (m := 1) (k := 128) (n := 512) none x _ 0 k).symm
  rw [show (constant S1x512 .f32 0x00000000#32 : FVec Ideal S1x512 .f32) (ix2 0 k) = 0 from Ideal.ofBits_zero_f32, zero_add]
  exact Finset.sum_congr rfl fun j _ => congrArg (x (ix2 0 j) * ·) (transpose_ix2_apply W _ j k).symm

/-- A bias laid out as a row, the kernel's way and the reference's. -/
theorem bias_apply (b : FVec Ideal S512 .f32) (k : Fin 512) :
    broadcastInDim S1x512 ![1] Cert.ReferenceIdeal.Gen.bcast_S512_S1x512_1 b (ix2 (0 : Fin 1) k)
      = shapeCast S1x512 b shapeCasts_S512_S1x512 (ix2 (0 : Fin 1) k) :=
  (broadcastInDim_apply _ _ b _ (ix1 k) fun | ⟨0, _⟩ => rfl).trans (shapeCast_a_1a_apply b _ 0 k).symm

/-- The kernel's four gates are the reference's: the kernel adds the two biases first. -/
theorem gates_eq (x : FVec Ideal S1x128 .f32) (h : FVec Ideal S1x1x128 .f32) (W U : FVec Ideal S512x128 .f32) (b d : FVec Ideal S512 .f32) :
    k0_pay3 x h W U b d = refGates x h W U b d := by
  unfold k0_pay3 refGates
  dsimp only
  rw [product_eq, product_eq]
  funext i
  obtain ⟨k, rfl⟩ := gate_idx i
  generalize Host.dotGeneral (F := Ideal) _ none x _ = p
  generalize Host.dotGeneral (F := Ideal) _ none _ _ = q
  show p _ + q _ + (shapeCast S1x512 b shapeCasts_S512_S1x512 _ + shapeCast S1x512 d shapeCasts_S512_S1x512 _)
    = p _ + broadcastInDim _ _ _ b _ + q _ + broadcastInDim _ _ _ d _
  rw [bias_apply, bias_apply, ← add_assoc (p _ + q _), add_right_comm (p _) (q _)]

/-- The kernel's new cell state is the reference's. -/
theorem cell_eq (x : FVec Ideal S1x128 .f32) (h e : FVec Ideal S1x1x128 .f32) (W U : FVec Ideal S512x128 .f32) (b d : FVec Ideal S512 .f32) :
    k0_pay4 x h e W U b d = refCell (refGates x h W U b d) e := by
  unfold k0_pay4 refCell
  rw [gates_eq, refSigmoid_eq, refSigmoid_eq]
  rfl

/-- The kernel's new hidden state is the reference's. -/
theorem hidden_eq (x : FVec Ideal S1x128 .f32) (h e : FVec Ideal S1x1x128 .f32) (W U : FVec Ideal S512x128 .f32) (b d : FVec Ideal S512 .f32) :
    k0_pay5 x h e W U b d = refHidden (refGates x h W U b d) e := by
  unfold k0_pay5 refHidden
  rw [gates_eq, cell_eq, refSigmoid_eq]
  rfl

end Cert.Proof

end
-- ==== Proof.lean ====
/- The five claims about the single-step LSTM kernel with its embedding lookup (proofs.«01_k».proof.Defs): the kernel, at
   the machine's numbers and over the extended reals, and the reference leave their arguments as they were and their counters at
   zero, and over the extended reals the kernel's three results are the reference's. -/
module

public import proofs.«01_k».proof.Defs
public import proofs.«01_k».proof.Proof.Results
public import proofs.«01_k».proof.Proof.Same
public import proofs.«01_k».proof.Proof.Compare
public import Idealize.ShloMosaic.Lib.Quiescent

@[expose] public section

noncomputable section

namespace Cert.Proof

open Idealize.ShloMosaic Idealize.ShloMosaic.TcCoe Idealize.SL.Sem

/-- The kernel over the extended reals ends with its arguments as they were and its counters at zero. -/
theorem kernel_real_frame : quiescent_KernelIdeal := fun m g hp =>
  frame_kept m g (Below.wordOK fun c => word_below (hp c))

/-- So does the kernel at the machine's numbers, whose program has the same text. -/
theorem kernel_frame : quiescent_Kernel := fun m g hp =>
  (congrArg (fun d => θ_run d _ _ _) (defs_same (F := Bits))).mpr
    (frame_kept (F := Bits) m g (Below.wordOK fun c => word_below (hp c)))

/-- The reference, from any memory, ends with its arguments as they were; it has no counters. -/
theorem reference_frame : quiescent_ReferenceIdeal := fun m g _ =>
  (θ_run Cert.ReferenceIdeal.defs _ _).mono (fun r h => ⟨fun c => (h c).2.2.2, sem_eq_zero_of_no_sems (by decide) r.2⟩)
    (Cert.ReferenceIdeal.Value.run m g)

section Agree

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}

/-- The two memories hold the same arguments on device `c`. -/
abbrev SameArgs (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)

/-- From the same arguments, the kernel's new hidden state and new cell state are the reference's. -/
theorem states_agree (hb : Below m) (c : Dev Cert.KernelIdeal.nD) (h : SameArgs m m' c) :
    newHidden m hb c = refHidden (refGatesOf m' c) (m' ((c.tc : Thread Cert.ReferenceIdeal.nD Cert.ReferenceIdeal.τ).loc Cert.ReferenceIdeal.main_arg2))
    ∧ newCell m hb c = refCell (refGatesOf m' c) (m' ((c.tc : Thread Cert.ReferenceIdeal.nD Cert.ReferenceIdeal.τ).loc Cert.ReferenceIdeal.main_arg2)) := by
  obtain ⟨h0, h1, h2, h3, h4, h5, h6, h7⟩ := h
  unfold newHidden newCell refGatesOf
  rw [h0, h1, h2, h3, h4, h5, h6, h7, refRow_eq _ _ (hb c), hidden_eq, cell_eq]
  exact ⟨rfl, rfl⟩

end Agree

/-- On real numbers the kernel's three results are the reference's. -/
theorem results_agree : algebraic_KernelIdeal_ReferenceIdeal := fun m g m' g' hp hsame => by
  have hb : Below m := fun c => word_below (hp c)
  let lead (x : FVec Ideal Cert.KernelIdeal.S1x128 .f32) : FVec Ideal Cert.KernelIdeal.S1x1x128 .f32 :=
    shapeCast Cert.KernelIdeal.S1x1x128 x Cert.KernelIdeal.Gen.shapeCasts_S1x128_S1x1x128
  refine ⟨fun c => lead (newHidden m hb c), fun c => lead (newHidden m hb c), fun c => lead (newCell m hb c),
    (θ_run Cert.KernelIdeal.defs _ _).mono (fun r h c => ⟨(h.1 c).1, (h.1 c).1, (h.1 c).2, h.2 c⟩) (kernel_results m g hb),
    (θ_run Cert.ReferenceIdeal.defs _ _).mono (fun r h c => ?_) (Cert.ReferenceIdeal.Value.run m' g')⟩
  obtain ⟨e0, e1, e2⟩ := ref_results m' c
  obtain ⟨a0, a1⟩ := states_agree hb c (hsame c)
  exact ⟨((h c).1.trans e0).trans (congrArg lead a0).symm, ((h c).2.1.trans e1).trans (congrArg lead a0).symm,
    ((h c).2.2.1.trans e2).trans (congrArg lead a1).symm, (h c).2.2.2⟩

/-- All the claims. -/
theorem claim : Cert.Claim := ⟨Cert.Kernel.Gen.facts, Cert.KernelIdeal.Gen.facts, Cert.ReferenceIdeal.Gen.facts, Cert.Pre_word_in_table.Gen.facts,
  kernel_frame, kernel_real_frame, reference_frame, fun m g _ => reference_frame m g trivial, trivial, results_agree⟩

end Cert.Proof

end
